-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S65536x256 : Shape := ⟨2, ![65536, 256]⟩
abbrev S3x128x256 : Shape := ⟨3, ![3, 128, 256]⟩
abbrev S3 : Shape := ⟨1, ![3]⟩
abbrev S1x128x256 : Shape := ⟨3, ![1, 128, 256]⟩
abbrev S128x256 : Shape := ⟨2, ![128, 256]⟩
abbrev S1 : Shape := ⟨1, ![1]⟩
abbrev S_ : Shape := ⟨0, ![]⟩
abbrev S8x2048x256 : Shape := ⟨3, ![8, 2048, 256]⟩
abbrev S8 : Shape := ⟨1, ![8]⟩
abbrev S1x2048x256 : Shape := ⟨3, ![1, 2048, 256]⟩
abbrev S2048x256 : Shape := ⟨2, ![2048, 256]⟩

abbrev nBuf : Table → Nat
  | .hbm => 4
  | .local .tc .vmem => 1
  | .local .scVector .vmem => 1
  | _ => 0

abbrev bufTy : (tb : Table) → Fin (nBuf tb) → BufTy
  | .hbm, ⟨0, _⟩ => ⟨S4096x256, .f32⟩
  | .hbm, ⟨1, _⟩ => ⟨S65536x256, .f32⟩
  | .hbm, ⟨2, _⟩ => ⟨S65536x256, .f32⟩
  | .hbm, ⟨3, _⟩ => ⟨S65536x256, .f32⟩
  | .local .tc .vmem, ⟨0, _⟩ => ⟨S8x2048x256, .f32⟩
  | .local .scVector .vmem, ⟨0, _⟩ => ⟨S3x128x256, .f32⟩
  | _, _ => ⟨S4096x256, .f32⟩

abbrev bufScoped : (cs : CoreSpace) → Fin (nBuf (.local .tc cs)) → Bool
  | .vmem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_v0_scv : Ref sig .scVector := ⟨.hbm, 2, rfl⟩
abbrev cc1_scratch0 : Ref sig .tc := ⟨.vmem, 0, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let c57344_i32 : BitVec 32 := 57344#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c57344_i32 v2
  let v4 : BitVec 32 := Scalar.addi v3 c0_i32
  let c0_i32_4 : BitVec 32 := 0#32
  ![v4.toNat, 0]
abbrev grid1 : Pipeline.Grid := .none

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x256 : Shape := ⟨2, ![4096, 256]⟩
abbrev S65536x256 : Shape := ⟨2, ![65536, 256]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S65536x256, .f32⟩
  | .hbm, ⟨2, _⟩ => ⟨S_, .i32⟩
  | .hbm, ⟨3, _⟩ => ⟨S_, .i32⟩
  | .hbm, ⟨4, _⟩ => ⟨S65536x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩

abbrev nD : Nat := 1
abbrev τ : Topo := Topo.v7x

variable {F : FTy → Type} [FloatOps F]
-- ==== Proof.Common.lean ====
module

public import Idealize.ShloMosaic.Lib.Tactic

@[expose] public section

/-! What both launches of the program, the bit-exact one and the ideal one, use alike: a chunk that a copy has
filled is held at the contents it was filled with, and a region held in pieces is held whole. -/

namespace Cert.Proof.Common

open Idealize.ShloMosaic
open Idealize.SL Idealize.SL.RA Idealize.SL.BI
open scoped Idealize.SL.BI
open Idealize.SL.BI.BIBase Idealize.SL.BI.Laws Idealize.SL.ProofMode

variable {nD : ℕ} {τ : Topo} {sig : RefSig} {Ix : Type} [DecidableEq Ix] {Val : EltTy → Type} {Name : Type} [DecidableEq Name]
  {U : Type} [URA U] {Lvl : Type}

/-- A region named by a view and filled through it with `p` is the region holding `g`, where `g` agrees with `p`
at every element the view names. -/
theorem landed {t : Thread nD τ} {sp : Space} {s : Shape} {e : EltTy} (v : Memref sig t.2.kind sp s e) (q : PosShare TreeShare)
    (w g : Buf Val (v.view.loc t)) (p : s.Idx → Val e) (h : ∀ x, v.view.read Val g x = p x) :
    (v.view.loc t ↦[v.view.set]{q} v.view.writes Val w [⟨Rect.whole s, p⟩] : sProp (MT nD τ sig Ix Val Name U Lvl))
      = v.view.loc t ↦[v.view.set]{q} g := by
  refine pointsTo_congr fun i hi => ?_
  obtain ⟨x, -, rfl⟩ := Finset.mem_map.mp hi
  have e₁ := View.write_univ_eq_writes_whole v.view w [] p
  rw [View.writes_nil] at e₁
  rw [← e₁, View.write_emb_of_mem (h := Finset.mem_univ x), ← h x, View.read_apply, cast_cast, cast_eq]

section Pieces

variable {ℓ : Loc nD τ sig} {P : Type} [Fintype P] (K : P → Finset (Idx ℓ)) (hK : ∀ t t', t ≠ t' → Disjoint (K t) (K t'))

include hK

/-- A buffer is its pairwise disjoint pieces and what lies outside them all. -/
theorem pieces (q : PosShare TreeShare) (f : Buf Val ℓ) :
    (ℓ ↦{q} f : sProp (MT nD τ sig Ix Val Name U Lvl))
      ⊣⊢ iprop((bigSep Finset.univ fun t => ℓ ↦[K t]{q} f) ∗ ℓ ↦[Finset.univ \ Finset.univ.biUnion K]{q} f) := by
  rw [← pointsTo_biUnion Finset.univ K fun t _ t' _ => hK t t']
  exact pointsTo_split_subset (Finset.subset_univ _)

/-- Pieces at `g` and the rest at `f` are the buffer at any `h` that is `g` on the pieces and `f` outside them. -/
theorem regather (q : PosShare TreeShare) (f g h : Buf Val ℓ) (hg : ∀ t, ∀ i ∈ K t, h i = g i) (hf : ∀ i, (∀ t, i ∉ K t) → h i = f i) :
    iprop((bigSep Finset.univ fun t => ℓ ↦[K t]{q} g) ∗ ℓ ↦[Finset.univ \ Finset.univ.biUnion K]{q} f)
      ⊢ (ℓ ↦{q} h : sProp (MT nD τ sig Ix Val Name U Lvl)) := by
  refine .trans (BIClass.sep_mono (bigSep_mono fun t _ => Entails.of_eq (pointsTo_congr fun i hi => (hg t i hi).symm))
    (Entails.of_eq (pointsTo_congr fun i hi => (hf i fun t ht => ?_).symm))) (pieces K hK q h).2
  exact (Finset.mem_sdiff.mp hi).2 (Finset.mem_biUnion.mpr ⟨t, Finset.mem_univ t, ht⟩)

/-- Pieces held at any contents each, and the rest, are the buffer at some contents. -/
theorem regather_any [DecidableEq P] (q : PosShare TreeShare) (f : Buf Val ℓ) :
    iprop((bigSep Finset.univ fun t => iprop(∃ g, ℓ ↦[K t]{q} g)) ∗ ℓ ↦[Finset.univ \ Finset.univ.biUnion K]{q} f)
      ⊢ (iprop(∃ h, ℓ ↦{q} h) : sProp (MT nD τ sig Ix Val Name U Lvl)) := by
  haveI : Nonempty (Buf Val ℓ) := ⟨f⟩
  iintro ⟨H, Hr⟩
  ihave H := (bigSep_exists_pi (Y := fun _ : P => Buf Val ℓ) Finset.univ fun t g => (ℓ ↦[K t]{q} g : sProp (MT nD τ sig Ix Val Name U Lvl))) $$ H
  icases H with ⟨%gs, H⟩
  ihave H := (pointsTo_biUnion_join Finset.univ K gs f fun t _ t' _ => hK t t') $$ H
  icases H with ⟨%g, -, H⟩
  iexists _
  iapply (pointsTo_join_subset (Finset.subset_univ (Finset.univ.biUnion K)))
  isplitl [H]; · iexact H
  iexact Hr

end Pieces

/-- Reading a view right after it was filled with `p` gives `p`, whatever was written through it earlier. -/
theorem read_top {κ : Kind} {sp : Space} {s : Shape} {e : EltTy} (v : View sig κ sp s e) (f : v.ty.Contents Val) (L : List (View.Piece Val s e))
    (p : s.Idx → Val e) : v.read Val (v.writes Val f (⟨Rect.whole s, p⟩ :: L)) = p := by
  rw [← View.write_univ_eq_writes_whole, View.read_write_univ]

/-- The array whose first 4096 rows are `x`'s and whose other rows are those of `f`. -/
def merged {α : Type} (x : (⟨2, ![4096, 256]⟩ : Shape).Idx → α) (f : (⟨2, ![65536, 256]⟩ : Shape).Idx → α) :
    (⟨2, ![65536, 256]⟩ : Shape).Idx → α :=
  fun i => if h : (i 0).val < 4096 then x (fun | 0 => ⟨(i 0).val, h⟩ | 1 => ⟨(i 1).val, (i 1).isLt⟩) else f i

/-- On one of the first 4096 rows, `merged x f` is `x` there. -/
theorem merged_of_lt {α : Type} (x : (⟨2, ![4096, 256]⟩ : Shape).Idx → α) (f : (⟨2, ![65536, 256]⟩ : Shape).Idx → α)
    (i : (⟨2, ![65536, 256]⟩ : Shape).Idx) (j : (⟨2, ![4096, 256]⟩ : Shape).Idx) (h0 : (i 0).val = (j 0).val) (h1 : (i 1).val = (j 1).val) :
    merged x f i = x j := by
  have h : (i 0).val < 4096 := h0 ▸ (j 0).isLt
  rw [merged, dif_pos h]
  refine congrArg x (funext fun a => Fin.ext ?_)
  match a with
  | 0 => exact h0
  | 1 => exact h1

/-- From row 4096 on, `merged x f` is `f`. -/
theorem merged_of_le {α : Type} (x : (⟨2, ![4096, 256]⟩ : Shape).Idx → α) (f : (⟨2, ![65536, 256]⟩ : Shape).Idx → α)
    (i : (⟨2, ![65536, 256]⟩ : Shape).Idx) (h : 4096 ≤ (i 0).val) : merged x f i = f i := by
  rw [merged, dif_neg (Nat.not_lt.mpr h)]

end Cert.Proof.Common

end
-- ==== Proof.KernelIdealSetup.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Common
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.OnKernelIdeal

open Cert.KernelIdeal Cert.KernelIdeal.Gen

open Idealize.ShloMosaic Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call's semaphores and buffers are as its launch needs them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's, the transfers' counters -/

abbrev UH : Type := URounds (GSem nD τ sig) ℕ
abbrev UU : Type := UH × (URounds (GSem nD τ sig) Unit × Counters)

local notation "𝕄" => MT nD τ sig (HIx 1) (Elt F) ℕ UU ℕ

abbrev EH : Emb UH (MT nD τ sig (HIx 1) (Elt F) ℕ UU ℕ) := embL

/-! ## The arrays -/

abbrev xLoc (d : Dev nD) : Loc nD τ sig := (SparseCore.T d).loc main_arg0
abbrev fLoc (d : Dev nD) : Loc nD τ sig := (SparseCore.T d).loc main_arg1
abbrev wLoc (d : Dev nD) : Loc nD τ sig := (SparseCore.T d).loc main_v0
abbrev yLoc (d : Dev nD) : Loc nD τ sig := (SparseCore.T d).loc main_v1

local notation "fV" => (Memref.whole Cert.KernelIdeal.main_arg1_scv : Memref Cert.KernelIdeal.sig Kind.scVector Space.hbm Cert.KernelIdeal.S65536x256 EltTy.f32)
local notation "wV" => (Memref.whole Cert.KernelIdeal.main_v0_scv : Memref Cert.KernelIdeal.sig Kind.scVector Space.hbm Cert.KernelIdeal.S65536x256 EltTy.f32)
local notation "bV" => (Memref.whole Cert.KernelIdeal.cc0_scratch0 : Memref Cert.KernelIdeal.sig Kind.scVector Space.vmem Cert.KernelIdeal.S3x128x256 EltTy.f32)

/-! ## A tile's run -/

section Tile

variable (d : Dev nD) (L : grid0.Coords)

/-- Tile `L`'s core and subcore. -/
abbrev cV (L : grid0.Coords) : Fin τ.nSC := (L 0).castLE hcore0
abbrev jV (L : grid0.Coords) : Fin τ.nSub := (L 1).castLE hsub0

/-- The tile's two chunks of 128 rows, in the argument and in the result, and the two slots of its scratch they pass through. -/
abbrev fC0 : Memref sig .scVector .hbm S128x256 .f32 := (fV).slice (Rect.unit (s := S65536x256) (k0_off1 L 0#32) S128x256.size (k0_off1_inb L 0)) (fun _ => rfl)
abbrev fC1 : Memref sig .scVector .hbm S128x256 .f32 := (fV).slice (Rect.unit (s := S65536x256) (k0_off1 L 128#32) S128x256.size (k0_off1_inb L 1)) (fun _ => rfl)
abbrev wC0 : Memref sig .scVector .hbm S128x256 .f32 := (wV).slice (Rect.unit (s := S65536x256) (k0_off1 L 0#32) S128x256.size (k0_off1_inb L 0)) (fun _ => rfl)
abbrev wC1 : Memref sig .scVector .hbm S128x256 .f32 := (wV).slice (Rect.unit (s := S65536x256) (k0_off1 L 128#32) S128x256.size (k0_off1_inb L 1)) (fun _ => rfl)
abbrev b0 : Memref sig .scVector .vmem S128x256 .f32 := ((bV).slice (Rect.unit (s := S3x128x256) ![0, 0, 0] S1x128x256.size inb_S3x128x256_S1x128x256_0_0_0) (fun _ => rfl)).squeeze S128x256 squeezes_S1x128x256_S128x256
abbrev b1 : Memref sig .scVector .vmem S128x256 .f32 := ((bV).slice (Rect.unit (s := S3x128x256) ![1, 0, 0] S1x128x256.size inb_S3x128x256_S1x128x256_1_0_0) (fun _ => rfl)).squeeze S128x256 squeezes_S1x128x256_S128x256

/-- Tile `L` holds the elements of `v`, at `f`'s contents. -/
abbrev at' {sp : Space} {s : Shape} {e : EltTy} (v : Memref sig .scVector sp s e) (f : Buf (Elt F) (v.view.loc (V d (cV L) (jV L)))) : sProp 𝕄 :=
  v.view.loc (V d (cV L) (jV L)) ↦[v.view.set]{fullShare} f

/-- The tile's `n`-th copy semaphore. -/
abbrev cell (n : ℕ) (h : n < 22 := by decide) : GSem nD τ sig := (V d (cV L) (jV L), .dma ⟨n, h⟩)

variable [FloatOps F]

/-- A tile's run, from its two chunks of the argument at `f`, its two chunks of the result, two slots of scratch and four
semaphores at zero: its chunks of the result end at `f`, every copy waited for and every semaphore back at zero. -/
theorem tile_run (O : CellTallies nD τ sig (HIx 1)) (W : Waits sig (HIx 1)) (f : Buf (Elt F) (fLoc d)) (w : Buf (Elt F) (wLoc d))
    (s0 s1 : Buf (Elt F) ((V d (cV L) (jV L)).loc cc0_scratch0)) :
    iprop(Transfers.MayWaits (V d (cV L) (jV L)) (default : HIx 1) O
        ∗ at' d L (fC0 L) f ∗ at' d L (fC1 L) f ∗ at' d L (wC0 L) w ∗ at' d L (wC1 L) w
        ∗ at' d L b0 s0 ∗ at' d L b1 s1
        ∗ semVal (cell d L 0) 0 ∗ semVal (cell d L 1) 0 ∗ semVal (cell d L 3) 0 ∗ semVal (cell d L 4) 0
        ∗ owes (V d (cV L) (jV L)) O W)
      ⊢ wp frame (wpE (defs₀ (F := F)) 𝒱₀ (V d (cV L) (jV L)) none) Set.univ
          (cc0_bank L fV (Memref.isWhole_whole _) wV (Memref.isWhole_whole _) bV (Memref.isWhole_whole _) cc0_scratch1 cc0_scratch2)
          fun _ => iprop(at' d L (fC0 L) f ∗ at' d L (fC1 L) f ∗ at' d L (wC0 L) f ∗ at' d L (wC1 L) f
            ∗ (∃ s, at' d L b0 s) ∗ (∃ s, at' d L b1 s)
        ∗ semVal (cell d L 0) 0 ∗ semVal (cell d L 1) 0 ∗ semVal (cell d L 3) 0 ∗ semVal (cell d L 4) 0
            ∗ ∃ W', ⌜∀ p ∈ W', p ∈ W ∨ p.2 = none⌝ ∗ owes (V d (cV L) (jV L)) O W') := by
  simp only [cc0_bank_eq_skeleton]; unfold cc0_bank_skel
  iintro ⟨#Hmw, Hf0, Hf1, Hw0, Hw1, Hb0, Hb1, Hs0, Hs1, Hs3, Hs4, HO⟩
  sl_exec
  sl_step
  have e0 : ∀ x, (wC0 L).view.read (Elt F) f x = tile_run.sl.dma0_2 d L f s0 x := fun x =>
    (congrFun (View.read_writes_whole b0.view s0 _) x).symm
  have e1 : ∀ x, (wC1 L).view.read (Elt F) f x = tile_run.sl.dma0_3 d L f s1 x := fun x =>
    (congrFun (View.read_writes_whole b1.view s1 _) x).symm
  ihave Hw0' := (Entails.of_eq (Common.landed (t := V d (cV L) (jV L)) (wC0 L) fullShare w f _ e0)) $$ Hw0
  ihave Hw1' := (Entails.of_eq (Common.landed (t := V d (cV L) (jV L)) (wC1 L) fullShare w f _ e1)) $$ Hw1
  isplitl [Hf0]; · iexact Hf0
  isplitl [Hf1]; · iexact Hf1
  isplitl [Hw0']; · iexact Hw0'
  isplitl [Hw1']; · iexact Hw1'
  isplitl [Hb0]; · iexists _; iexact Hb0
  isplitl [Hb1]; · iexists _; iexact Hb1
  isplitl [Hs0]; · iexact Hs0
  isplitl [Hs1]; · iexact Hs1
  isplitl [Hs3]; · iexact Hs3
  isplitl [Hs4]; · iexact Hs4
  iexists _
  isplitr; swap; · iexact HO
  ipureintro
  intro p hp
  iterate 4 (rcases Finset.mem_insert.mp hp with rfl | hp; · exact .inr rfl)
  exact .inl hp

end Tile

end Cert.Proof.OnKernelIdeal

end
-- ==== Proof.KernelIdealCore.lean ====
module

public import proofs.«01_k».proof.Proof.KernelIdealSetup

@[expose] public section

noncomputable section

namespace Cert.Proof.OnKernelIdeal

open Cert.KernelIdeal Cert.KernelIdeal.Gen

open Idealize.ShloMosaic Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A product over 2 indices, one factor after another. -/
theorem fin2 (Φ : Fin 2 → sProp 𝕄) : bigSep Finset.univ Φ = iprop(Φ 0 ∗ Φ 1) :=
  BI.bigSep_univ_eq_bigSepL [0, 1] (by decide) (by decide) Φ

/-- A product over 8 indices, one factor after another. -/
theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  BI.bigSep_univ_eq_bigSepL [0, 1, 2, 3, 4, 5, 6, 7] (by decide) (by decide) Φ

/-- A product over 16 indices, one factor after another. -/
theorem fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  BI.bigSep_univ_eq_bigSepL [0, 1, 2, 3, 4, 5, 6, 7, 8, 9, 10, 11, 12, 13, 14, 15] (by decide) (by decide) Φ

/-- A product over 28 indices, one factor after another. -/
theorem fin28 (Φ : Fin 28 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) :=
  BI.bigSep_univ_eq_bigSepL [0, 1, 2, 3, 4, 5, 6, 7, 8, 9, 10, 11, 12, 13, 14, 15, 16, 17, 18, 19, 20, 21, 22, 23, 24, 25, 26, 27] (by decide) (by decide) Φ

/-- Chunk `k` of 2048 rows lies inside the first argument; below, inside the arrays of 65536 rows; slot `k` inside the scratch. -/
theorem inbX (k : Fin 2) : ∀ a, (![2048 * k.val, 0] : Fin 2 → ℕ) a + S2048x256.size a ≤ S4096x256.size a := by
  intro a; have := k.isLt
  match a with
  | 0 => show 2048 * k.val + 2048 ≤ 4096; omega
  | 1 => show 0 + 256 ≤ 256; omega

theorem inbA (k : Fin 28) : ∀ a, (![2048 * k.val, 0] : Fin 2 → ℕ) a + S2048x256.size a ≤ S65536x256.size a := by
  intro a; have := k.isLt
  match a with
  | 0 => show 2048 * k.val + 2048 ≤ 65536; omega
  | 1 => show 0 + 256 ≤ 256; omega

/-- One of the first two chunks, among all of them. -/
abbrev lo (k : Fin 2) : Fin 28 := ⟨k.val, by have := k.isLt; omega⟩

theorem inbB (k : Fin 8) : ∀ a, (![k.val, 0, 0] : Fin 3 → ℕ) a + S1x2048x256.size a ≤ S8x2048x256.size a := by
  intro a; have := k.isLt
  match a with
  | 0 => show k.val + 1 ≤ 8; omega
  | 1 => show 0 + 2048 ≤ 2048; omega
  | 2 => show 0 + 256 ≤ 256; omega

/-- The chunks of the arguments and of the result, and the slots of the scratch they pass through. -/
abbrev xK (k : Fin 2) : Memref sig .tc .hbm S2048x256 .f32 :=
  (Memref.whole main_arg0).slice (Rect.unit (s := S4096x256) ![2048 * k.val, 0] S2048x256.size (inbX k)) (fun _ => rfl)
abbrev fK (k : Fin 28) : Memref sig .tc .hbm S2048x256 .f32 :=
  (Memref.whole main_arg1).slice (Rect.unit (s := S65536x256) ![2048 * k.val, 0] S2048x256.size (inbA k)) (fun _ => rfl)
abbrev yK (k : Fin 28) : Memref sig .tc .hbm S2048x256 .f32 :=
  (Memref.whole main_v1).slice (Rect.unit (s := S65536x256) ![2048 * k.val, 0] S2048x256.size (inbA k)) (fun _ => rfl)
abbrev bK (k : Fin 8) : Memref sig .tc .vmem S2048x256 .f32 :=
  ((Memref.whole cc1_scratch0).slice (Rect.unit (s := S8x2048x256) ![k.val, 0, 0] S1x2048x256.size (inbB k)) (fun _ => rfl)).squeeze S2048x256 squeezes_S1x2048x256_S2048x256

variable (d : Dev nD)

/-- The core holds the elements of `v`, at `f`'s contents. -/
abbrev tcAt {sp : Space} {s : Shape} {e : EltTy} (v : Memref sig .tc sp s e) (f : Buf (Elt F) (v.view.loc (T d : Thread nD τ))) : sProp 𝕄 :=
  v.view.loc (T d : Thread nD τ) ↦[v.view.set]{fullShare} f

/-- The core's `k`-th copy semaphore. -/
abbrev tcCell (k : Fin 16) : GSem nD τ sig := ((T d : Thread nD τ), .dma ⟨6 + k.val, by have := k.isLt; show 6 + k.val < 22; omega⟩)

/-- What the core leaves in the result: `x` over the first 4096 rows, `f` under them. -/
abbrev out (x : Buf (Elt F) (xLoc d)) (f : Buf (Elt F) (fLoc d)) : Buf (Elt F) (yLoc d) := Common.merged x f

/-- A chunk of the result filled with `x`'s chunk of the same number is held at the result's contents. -/
theorem xDone (k : Fin 2) (x : Buf (Elt F) (xLoc d)) (f : Buf (Elt F) (fLoc d)) (y : Buf (Elt F) (yLoc d)) (p : S2048x256.Idx → Elt F .f32) :
    tcAt d (yK (lo k)) ((yK (lo k)).view.writes (Elt F) y [⟨Rect.whole S2048x256, p⟩])
      ⊢ iprop(⌜p = (xK k).view.read (Elt F) x⌝ -∗ tcAt d (yK (lo k)) (out d x f)) := by
  iintro H %hp; istop
  refine Entails.of_eq (Common.landed (t := T d) (yK (lo k)) fullShare y (out d x f) p fun z => ?_)
  rw [hp, View.read_apply, View.read_apply]
  exact Common.merged_of_lt x f _ ((xK k).view.emb z) rfl rfl

/-- A chunk of the result filled with `f`'s chunk of the same number, not one of the first two, is held at the result's contents. -/
theorem fDone (k : Fin 28) (hk : 2 ≤ k.val) (x : Buf (Elt F) (xLoc d)) (f : Buf (Elt F) (fLoc d)) (y : Buf (Elt F) (yLoc d)) (p : S2048x256.Idx → Elt F .f32) :
    tcAt d (yK k) ((yK k).view.writes (Elt F) y [⟨Rect.whole S2048x256, p⟩]) ⊢ iprop(⌜p = (fK k).view.read (Elt F) f⌝ -∗ tcAt d (yK k) (out d x f)) := by
  iintro H %hp; istop
  refine Entails.of_eq (Common.landed (t := T d) (yK k) fullShare y (out d x f) p fun z => ?_)
  rw [hp, View.read_apply, View.read_apply]
  exact Common.merged_of_le x f ((yK k).view.emb z) (show 4096 ≤ 2048 * k.val + 1 * (z 0).val by omega)

variable [FloatOps F]

set_option maxHeartbeats 40000000 in
/-- The core's run over its ring of eight slots, from the chunks it reads and writes, the slots and the sixteen semaphores
at zero: the arguments' chunks come back as they were, the result's at `out x f`, every semaphore at zero. -/
theorem core_run (O : CellTallies nD τ sig (HIx 1)) (W : Waits sig (HIx 1)) (x : Buf (Elt F) (xLoc d)) (f : Buf (Elt F) (fLoc d)) (y : Buf (Elt F) (yLoc d))
    (s : Buf (Elt F) ((T d : Thread nD τ).loc cc1_scratch0)) :
    iprop(Transfers.MayWaits (T d) (default : HIx 1) O
        ∗ (bigSep Finset.univ fun k : Fin 2 => tcAt d (xK k) x)
        ∗ (bigSep Finset.univ fun k : Fin 28 => tcAt d (fK k) f)
        ∗ (bigSep Finset.univ fun k : Fin 28 => tcAt d (yK k) y)
        ∗ (bigSep Finset.univ fun k : Fin 8 => tcAt d (bK k) s)
        ∗ (bigSep Finset.univ fun k : Fin 16 => semVal (tcCell d k) 0)
        ∗ owes (T d) O W)
      ⊢ wp frame (wpE (defs₀ (F := F)) 𝒱₀ (T d) none) Set.univ
          (cc1__dma_body (Memref.whole main_arg0) (Memref.isWhole_whole _) (Memref.whole main_arg1) (Memref.isWhole_whole _) (Memref.whole main_v1) (Memref.isWhole_whole _)
            (Memref.whole main_v1) (Memref.isWhole_whole _) (Memref.whole cc1_scratch0) (Memref.isWhole_whole _) cc1_scratch1 cc1_scratch2)
          fun _ => iprop((bigSep Finset.univ fun k : Fin 2 => tcAt d (xK k) x)
            ∗ (bigSep Finset.univ fun k : Fin 28 => tcAt d (fK k) f)
            ∗ (bigSep Finset.univ fun k : Fin 28 => tcAt d (yK k) (out d x f))
            ∗ (bigSep Finset.univ fun k : Fin 8 => iprop(∃ s, tcAt d (bK k) s))
            ∗ (bigSep Finset.univ fun k : Fin 16 => semVal (tcCell d k) 0)
            ∗ ∃ W', ⌜∀ p ∈ W', p ∈ W ∨ p.2 = none⌝ ∗ owes (T d) O W') := by
  rw [fin2, fin8, fin16, fin28 (fun k => tcAt d (fK k) f), fin28 (fun k => tcAt d (yK k) y),
    fin28 (fun k => tcAt d (yK k) (out d x f)), fin8 (fun k => iprop(∃ s, tcAt d (bK k) s))]
  simp only [cc1__dma_body_eq_skeleton]; unfold cc1__dma_body_skel
  iintro ⟨#Hmw, ⟨X0, X1⟩, ⟨A0, A1, A2, A3, A4, A5, A6, A7, A8, A9, A10, A11, A12, A13, A14, A15, A16, A17, A18, A19, A20, A21, A22, A23, A24, A25, A26, A27⟩, ⟨Y0, Y1, Y2, Y3, Y4, Y5, Y6, Y7, Y8, Y9, Y10, Y11, Y12, Y13, Y14, Y15, Y16, Y17, Y18, Y19, Y20, Y21, Y22, Y23, Y24, Y25, Y26, Y27⟩, ⟨B0, B1, B2, B3, B4, B5, B6, B7⟩, ⟨S0, S1, S2, S3, S4, S5, S6, S7, S8, S9, S10, S11, S12, S13, S14, S15⟩, HO⟩
  sl_exec
  sl_step
  isplitl [X0 X1]
  · isplitl [X0]; · iexact X0
    iexact X1
  isplitl [A0 A1 A2 A3 A4 A5 A6 A7 A8 A9 A10 A11 A12 A13 A14 A15 A16 A17 A18 A19 A20 A21 A22 A23 A24 A25 A26 A27]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    isplitl [A23]; · iexact A23
    isplitl [A24]; · iexact A24
    isplitl [A25]; · iexact A25
    isplitl [A26]; · iexact A26
    iexact A27
  isplitl [Y0 Y1 Y2 Y3 Y4 Y5 Y6 Y7 Y8 Y9 Y10 Y11 Y12 Y13 Y14 Y15 Y16 Y17 Y18 Y19 Y20 Y21 Y22 Y23 Y24 Y25 Y26 Y27]
  · isplitl [Y0]; · iapply (xDone d 0 x f y _) $$ Y0; ipureintro; exact Common.read_top (bK 0).view s _ _
    isplitl [Y1]; · iapply (xDone d 1 x f y _) $$ Y1; ipureintro; exact Common.read_top (bK 1).view s _ _
    isplitl [Y2]; · iapply (fDone d 2 (by decide) x f y _) $$ Y2; ipureintro; exact Common.read_top (bK 2).view s _ _
    isplitl [Y3]; · iapply (fDone d 3 (by decide) x f y _) $$ Y3; ipureintro; exact Common.read_top (bK 3).view s _ _
    isplitl [Y4]; · iapply (fDone d 4 (by decide) x f y _) $$ Y4; ipureintro; exact Common.read_top (bK 4).view s _ _
    isplitl [Y5]; · iapply (fDone d 5 (by decide) x f y _) $$ Y5; ipureintro; exact Common.read_top (bK 5).view s _ _
    isplitl [Y6]; · iapply (fDone d 6 (by decide) x f y _) $$ Y6; ipureintro; exact Common.read_top (bK 6).view s _ _
    isplitl [Y7]; · iapply (fDone d 7 (by decide) x f y _) $$ Y7; ipureintro; exact Common.read_top (bK 7).view s _ _
    isplitl [Y8]; · iapply (fDone d 8 (by decide) x f y _) $$ Y8; ipureintro; exact Common.read_top (bK 0).view s _ _
    isplitl [Y9]; · iapply (fDone d 9 (by decide) x f y _) $$ Y9; ipureintro; exact Common.read_top (bK 1).view s _ _
    isplitl [Y10]; · iapply (fDone d 10 (by decide) x f y _) $$ Y10; ipureintro; exact Common.read_top (bK 2).view s _ _
    isplitl [Y11]; · iapply (fDone d 11 (by decide) x f y _) $$ Y11; ipureintro; exact Common.read_top (bK 3).view s _ _
    isplitl [Y12]; · iapply (fDone d 12 (by decide) x f y _) $$ Y12; ipureintro; exact Common.read_top (bK 4).view s _ _
    isplitl [Y13]; · iapply (fDone d 13 (by decide) x f y _) $$ Y13; ipureintro; exact Common.read_top (bK 5).view s _ _
    isplitl [Y14]; · iapply (fDone d 14 (by decide) x f y _) $$ Y14; ipureintro; exact Common.read_top (bK 6).view s _ _
    isplitl [Y15]; · iapply (fDone d 15 (by decide) x f y _) $$ Y15; ipureintro; exact Common.read_top (bK 7).view s _ _
    isplitl [Y16]; · iapply (fDone d 16 (by decide) x f y _) $$ Y16; ipureintro; exact Common.read_top (bK 0).view s _ _
    isplitl [Y17]; · iapply (fDone d 17 (by decide) x f y _) $$ Y17; ipureintro; exact Common.read_top (bK 1).view s _ _
    isplitl [Y18]; · iapply (fDone d 18 (by decide) x f y _) $$ Y18; ipureintro; exact Common.read_top (bK 2).view s _ _
    isplitl [Y19]; · iapply (fDone d 19 (by decide) x f y _) $$ Y19; ipureintro; exact Common.read_top (bK 3).view s _ _
    isplitl [Y20]; · iapply (fDone d 20 (by decide) x f y _) $$ Y20; ipureintro; exact Common.read_top (bK 4).view s _ _
    isplitl [Y21]; · iapply (fDone d 21 (by decide) x f y _) $$ Y21; ipureintro; exact Common.read_top (bK 5).view s _ _
    isplitl [Y22]; · iapply (fDone d 22 (by decide) x f y _) $$ Y22; ipureintro; exact Common.read_top (bK 6).view s _ _
    isplitl [Y23]; · iapply (fDone d 23 (by decide) x f y _) $$ Y23; ipureintro; exact Common.read_top (bK 7).view s _ _
    isplitl [Y24]; · iapply (fDone d 24 (by decide) x f y _) $$ Y24; ipureintro; exact Common.read_top (bK 0).view s _ _
    isplitl [Y25]; · iapply (fDone d 25 (by decide) x f y _) $$ Y25; ipureintro; exact Common.read_top (bK 1).view s _ _
    isplitl [Y26]; · iapply (fDone d 26 (by decide) x f y _) $$ Y26; ipureintro; exact Common.read_top (bK 2).view s _ _
    iapply (fDone d 27 (by decide) x f y _) $$ Y27; ipureintro; exact Common.read_top (bK 3).view s _ _
  isplitl [B0 B1 B2 B3 B4 B5 B6 B7]
  · isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    isplitl [B6]; · iexists _; iexact B6
    iexists _; iexact B7
  isplitl [S0 S1 S2 S3 S4 S5 S6 S7 S8 S9 S10 S11 S12 S13 S14 S15]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact S15
  iexists _
  isplitr; swap; · iexact HO
  ipureintro
  intro p hp
  iterate 56 (rcases Finset.mem_insert.mp hp with rfl | hp; · exact .inr rfl)
  exact .inl hp

end Cert.Proof.OnKernelIdeal

end
-- ==== Proof.KernelIdealTile.lean ====
module

public import proofs.«01_k».proof.Proof.KernelIdealCore

@[expose] public section

noncomputable section

namespace Cert.Proof.OnKernelIdeal

open Cert.KernelIdeal Cert.KernelIdeal.Gen

open Idealize.ShloMosaic Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The rows of the tiles -/

/-- The tile at core `c`, subcore `s`. -/
def at_ (c : Fin (grid0.bound 0)) (s : Fin (grid0.bound 1)) : grid0.Coords :=
  fun | 0 => c | 1 => s | ⟨_ + 2, h⟩ => absurd h (Nat.not_lt.2 (Nat.le_add_left _ _))

/-- Tile `L`'s `r`-th chunk of 128 rows. -/
abbrev fC (L : grid0.Coords) (r : Fin 2) : Memref sig .scVector .hbm S128x256 .f32 :=
  (Memref.whole main_arg1_scv).slice (Rect.unit (s := S65536x256) (k0_off1 L (BitVec.ofNat 32 (128 * r.val))) S128x256.size (k0_off1_inb L r)) (fun _ => rfl)
/-- Its elements. -/
abbrev rows (L : grid0.Coords) (r : Fin 2) : Finset S65536x256.Idx := (fC L r).view.set

/-- The rows of a tile's chunk. -/
theorem mem_rows (L : grid0.Coords) (r : Fin 2) (i : S65536x256.Idx) :
    i ∈ rows L r ↔ 512 * (L 1).val + 256 * (L 0).val + 128 * r.val + 57344 ≤ (i 0).val ∧ (i 0).val < 512 * (L 1).val + 256 * (L 0).val + 128 * r.val + 57344 + 128 := by
  have e : i ∈ rows L r ↔ ∀ a, (k0_off1 L (BitVec.ofNat 32 (128 * r.val))) a ≤ i a ∧ (i a).val < (k0_off1 L (BitVec.ofNat 32 (128 * r.val))) a + S128x256.size a := by
    rw [show rows L r = _ from View.set_slice_whole main_arg1_scv _]; exact Rect.mem_set_unit
  rw [e, k0_off1_eq]
  refine ⟨fun h => h 0, fun h a => ?_⟩
  match a with
  | 0 => exact h
  | 1 => exact ⟨Nat.zero_le _, (i 1).isLt⟩

/-- A chunk's place: core, subcore, which of the tile's two. -/
abbrev Chunk : Type := Fin 2 × Fin 16 × Fin 2
/-- Its elements. -/
abbrev chunk (t : Chunk) : Finset S65536x256.Idx := rows (at_ t.1 t.2.1) t.2.2

/-- The rows of the chunk at place `t`. -/
theorem mem_chunk (t : Chunk) (i : S65536x256.Idx) :
    i ∈ chunk t ↔ 512 * t.2.1.val + 256 * t.1.val + 128 * t.2.2.val + 57344 ≤ (i 0).val ∧ (i 0).val < 512 * t.2.1.val + 256 * t.1.val + 128 * t.2.2.val + 57344 + 128 :=
  mem_rows _ _ _

/-- No two tiles, and no two chunks of a tile, share an element. -/
theorem chunk_disjoint (t t' : Chunk) (h : t ≠ t') : Disjoint (chunk t) (chunk t') := by
  refine Finset.disjoint_left.mpr fun i hi hi' => h ?_
  have a := (mem_chunk t i).mp hi
  have b := (mem_chunk t' i).mp hi'
  obtain ⟨⟨c, hc⟩, ⟨s, hs⟩, ⟨r, hr⟩⟩ := t
  obtain ⟨⟨c', hc'⟩, ⟨s', hs'⟩, ⟨r', hr'⟩⟩ := t'
  simp only at a b
  have e1 : s = s' := by omega
  have e2 : c = c' := by omega
  have e3 : r = r' := by omega
  subst e1 e2 e3; rfl

/-- A chunk's rows are from 57344 on. -/
theorem chunk_ge (t : Chunk) (i : S65536x256.Idx) (h : i ∈ chunk t) : 57344 ≤ (i 0).val := by
  have := (mem_chunk t i).mp h; omega

/-- Every row from 57344 on lies in one of the chunks. -/
theorem chunk_covers (i : S65536x256.Idx) (h : ∀ t, i ∉ chunk t) : (i 0).val < 57344 := by
  by_contra hge
  have hi : (i 0).val < 65536 := (i 0).isLt
  refine h (⟨((i 0).val - 57344) / 256 % 2, by omega⟩, ⟨((i 0).val - 57344) / 512, by omega⟩, ⟨((i 0).val - 57344) / 128 % 2, by omega⟩) ((mem_chunk _ i).mpr ?_)
  simp only
  omega

/-! ## The tile's scratch, in slots -/

/-- Slot `k` lies inside the scratch. -/
theorem inbS (k : Fin 3) : ∀ a, (![k.val, 0, 0] : Fin 3 → ℕ) a + S1x128x256.size a ≤ S3x128x256.size a := by
  intro a; have := k.isLt
  match a with
  | 0 => show k.val + 1 ≤ 3; omega
  | 1 => show 0 + 128 ≤ 128; omega
  | 2 => show 0 + 256 ≤ 256; omega

/-- Slot `k` of the tile's scratch. -/
abbrev sK (k : Fin 3) : Memref sig .scVector .vmem S128x256 .f32 :=
  ((Memref.whole cc0_scratch0).slice (Rect.unit (s := S3x128x256) ![k.val, 0, 0] S1x128x256.size (inbS k)) (fun _ => rfl)).squeeze S128x256 squeezes_S1x128x256_S128x256

/-- The elements of slot `k`. -/
theorem mem_sK (k : Fin 3) (i : S3x128x256.Idx) : i ∈ (sK k).view.set ↔ ∀ a, (![k.val, 0, 0] : Fin 3 → ℕ) a ≤ i a ∧ (i a).val < (![k.val, 0, 0] : Fin 3 → ℕ) a + S1x128x256.size a := by
  rw [show (sK k).view.set = _ from (View.set_reshape _ _).trans (View.set_slice_whole cc0_scratch0 _)]; exact Rect.mem_set_unit

/-- The slots are disjoint. -/
theorem sK_disjoint (k k' : Fin 3) (h : k ≠ k') : Disjoint (sK k).view.set (sK k').view.set := by
  refine Finset.disjoint_left.mpr fun i hi hi' => h (Fin.ext ?_)
  have a := (mem_sK k i).mp hi 0
  have b := (mem_sK k' i).mp hi' 0
  change k.val ≤ (i 0).val ∧ (i 0).val < k.val + 1 at a
  change k'.val ≤ (i 0).val ∧ (i 0).val < k'.val + 1 at b
  omega

/-- A product over 3 indices, one factor after another. -/
theorem fin3 (Φ : Fin 3 → sProp 𝕄) : bigSep Finset.univ Φ = iprop(Φ 0 ∗ Φ 1 ∗ Φ 2) :=
  BI.bigSep_univ_eq_bigSepL [0, 1, 2] (by decide) (by decide) Φ

/-! ## The tile's task -/

variable (d : Dev nD) (L : grid0.Coords)

/-- What a tile takes and gives back: its two chunks of the argument at `f`, and of the result at `w`. -/
abbrev task (f : Buf (Elt F) (fLoc d)) (w : Buf (Elt F) (wLoc d)) (L : grid0.Coords) : sProp 𝕄 :=
  iprop((bigSep Finset.univ fun r : Fin 2 => fLoc d ↦[rows L r]{fullShare} f) ∗ bigSep Finset.univ fun r : Fin 2 => wLoc d ↦[rows L r]{fullShare} w)

/-- The tile's own semaphores: the four its copies use, and the others. -/
theorem ownSems0_V :
    (ownSems0 (V d (cV L) (jV L)) : sProp 𝕄)
      = iprop(semVal (cell d L 0) 0 ∗ semVal (cell d L 1) 0 ∗ semVal (cell d L 3) 0 ∗ semVal (cell d L 4) 0
          ∗ bigSep (((((ownCells (V d (cV L) (jV L))).erase (cell d L 0)).erase (cell d L 1)).erase (cell d L 3)).erase (cell d L 4)) fun g => semVal g 0) := by
  have own : ∀ n : Fin 6, ((V d (cV L) (jV L), .dma ⟨n.val, by have := n.isLt; show n.val < 22; omega⟩) : GSem nD τ sig) ∈ ownCells (V d (cV L) (jV L)) := fun n =>
    mem_ownCells.mpr ⟨rfl, by
      show (SemLoc.dma ⟨n.val, _⟩ : SemLoc sig).isScoped .scVector = true; revert n; decide⟩
  have ne : ∀ (a b : ℕ) (ha : a < 22) (hb : b < 22), a ≠ b → cell d L a ha ≠ cell d L b hb := fun a b ha hb h e =>
    h (congrArg Fin.val (SemLoc.dma.inj (congrArg Prod.snd e)))
  have o0 : cell d L 0 ∈ ownCells (V d (cV L) (jV L)) := own 0
  have o1 : cell d L 1 ∈ ownCells (V d (cV L) (jV L)) := own 1
  have o3 : cell d L 3 ∈ ownCells (V d (cV L) (jV L)) := own 3
  have o4 : cell d L 4 ∈ ownCells (V d (cV L) (jV L)) := own 4
  unfold SparseCore.Cfg.ownSems0
  rw [SparseCore.bigSep_erase' o0,
    SparseCore.bigSep_erase' (Finset.mem_erase.mpr ⟨ne 1 0 (by decide) (by decide) (by decide), o1⟩),
    SparseCore.bigSep_erase' (Finset.mem_erase.mpr ⟨ne 3 1 (by decide) (by decide) (by decide), Finset.mem_erase.mpr ⟨ne 3 0 (by decide) (by decide) (by decide), o3⟩⟩),
    SparseCore.bigSep_erase' (Finset.mem_erase.mpr ⟨ne 4 3 (by decide) (by decide) (by decide), Finset.mem_erase.mpr ⟨ne 4 1 (by decide) (by decide) (by decide),
      Finset.mem_erase.mpr ⟨ne 4 0 (by decide) (by decide) (by decide), o4⟩⟩⟩)]

/-- The tile's own buffers: its scratch, and the others. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

variable [FloatOps F]

/-- The tile's task, from what a tile is handed: its two chunks of the result end at the argument's contents, its own
buffers and semaphores come back. -/
theorem tile_body (hF : (K (F := F)).Facts) (f : Buf (Elt F) (fLoc d)) (w : Buf (Elt F) (wLoc d)) (O : CellTallies nD τ sig (HIx 1)) (W : Waits sig (HIx 1)) (hO : ∀ g, O g none = 0) :
    iprop(levAts (K (F := F)).L (K (F := F)).lev ∗ emp ∗ task d f w L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_bank L (Memref.whole main_arg1_scv) (Memref.isWhole_whole _) (Memref.whole main_v0_scv) (Memref.isWhole_whole _)
            (Memref.whole cc0_scratch0) (Memref.isWhole_whole _) cc0_scratch1 cc0_scratch2)
          fun _ => iprop(task d f (f : Buf (Elt F) (wLoc d)) L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold task
  simp only [fin2]
  iintro ⟨#Hlv, -, ⟨⟨Hf0, Hf1⟩, Hw0, Hw1⟩, ⟨⟨%s, Hs⟩, Hbufs⟩, ⟨Hs0, Hs1, Hs3, Hs4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs := (Common.pieces (ℓ := (V d (cV L) (jV L)).loc cc0_scratch0) (fun k => (sK k).view.set) sK_disjoint fullShare s).1 $$ Hs
  icases Hs with ⟨Hs, Rs⟩
  ihave Hs := (Entails.of_eq (fin3 _)) $$ Hs
  icases Hs with ⟨Hb0, Hb1, Hb2⟩
  iapply (wp_wand_r Idealize.ShloMosaic.frame (wpE (defs₀ (F := F)) 𝒱₀ (V d (cV L) (jV L)) none) Set.univ)
  isplitl [Hf0 Hf1 Hw0 Hw1 Hb0 Hb1 Hs0 Hs1 Hs3 Hs4 HO Hmw]
  · iapply (tile_run d L O W f w s s)
    isplitl [Hmw]; · iexact Hmw
    isplitl [Hf0]; · iexact Hf0
    isplitl [Hf1]; · iexact Hf1
    isplitl [Hw0]; · iexact Hw0
    isplitl [Hw1]; · iexact Hw1
    isplitl [Hb0]; · iexact Hb0
    isplitl [Hb1]; · iexact Hb1
    isplitl [Hs0]; · iexact Hs0
    isplitl [Hs1]; · iexact Hs1
    isplitl [Hs3]; · iexact Hs3
    isplitl [Hs4]; · iexact Hs4
    iexact HO
  iintro %_ ⟨Hf0, Hf1, Hw0, Hw1, Hb0, Hb1, Hs0, Hs1, Hs3, Hs4, HO⟩
  isplitl [Hf0 Hf1 Hw0 Hw1]
  · isplitl [Hf0 Hf1]
    · isplitl [Hf0]; · iexact Hf0
      iexact Hf1
    isplitl [Hw0]; · iexact Hw0
    iexact Hw1
  isplitl [Hb0 Hb1 Hb2 Rs Hbufs]
  · isplitl [Hb0 Hb1 Hb2 Rs]
    · iapply (Common.regather_any (ℓ := (V d (cV L) (jV L)).loc cc0_scratch0) (fun k => (sK k).view.set) sK_disjoint fullShare s)
      isplitr [Rs]; swap; · iexact Rs
      iapply (Entails.of_eq (fin3 fun k => iprop(∃ g, (V d (cV L) (jV L)).loc cc0_scratch0 ↦[(sK k).view.set]{fullShare} g)).symm)
      isplitl [Hb0]; · iexact Hb0
      isplitl [Hb1]; · iexact Hb1
      iexists s; iexact Hb2
    iexact Hbufs
  isplitl [Hs0 Hs1 Hs3 Hs4 Hsems]
  · isplitl [Hs0]; · iexact Hs0
    isplitl [Hs1]; · iexact Hs1
    isplitl [Hs3]; · iexact Hs3
    isplitl [Hs4]; · iexact Hs4
    iexact Hsems
  iexact HO

end Cert.Proof.OnKernelIdeal

end
-- ==== Proof.KernelIdealRegion.lean ====
module

public import proofs.«01_k».proof.Proof.KernelIdealCore

@[expose] public section

noncomputable section

namespace Cert.Proof.OnKernelIdeal

open Cert.KernelIdeal Cert.KernelIdeal.Gen

open Idealize.ShloMosaic Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The chunks and the slots: which elements they have, and that they are disjoint -/

theorem mem_xK (k : Fin 2) (i : S4096x256.Idx) : i ∈ (xK k).view.set ↔ ∀ a, (![2048 * k.val, 0] : Fin 2 → ℕ) a ≤ i a ∧ (i a).val < (![2048 * k.val, 0] : Fin 2 → ℕ) a + S2048x256.size a := by
  rw [show (xK k).view.set = _ from View.set_slice_whole main_arg0 _]; exact Rect.mem_set_unit

theorem mem_yK (k : Fin 28) (i : S65536x256.Idx) : i ∈ (yK k).view.set ↔ ∀ a, (![2048 * k.val, 0] : Fin 2 → ℕ) a ≤ i a ∧ (i a).val < (![2048 * k.val, 0] : Fin 2 → ℕ) a + S2048x256.size a := by
  rw [show (yK k).view.set = _ from View.set_slice_whole main_v1 _]; exact Rect.mem_set_unit

theorem mem_bK (k : Fin 8) (i : S8x2048x256.Idx) : i ∈ (bK k).view.set ↔ ∀ a, (![k.val, 0, 0] : Fin 3 → ℕ) a ≤ i a ∧ (i a).val < (![k.val, 0, 0] : Fin 3 → ℕ) a + S1x2048x256.size a := by
  rw [show (bK k).view.set = _ from (View.set_reshape _ _).trans (View.set_slice_whole cc1_scratch0 _)]; exact Rect.mem_set_unit

theorem xK_disjoint (k k' : Fin 2) (h : k ≠ k') : Disjoint (xK k).view.set (xK k').view.set := by
  refine Finset.disjoint_left.mpr fun i hi hi' => h (Fin.ext ?_)
  have a := (mem_xK k i).mp hi 0
  have b := (mem_xK k' i).mp hi' 0
  change 2048 * k.val ≤ (i 0).val ∧ (i 0).val < 2048 * k.val + 2048 at a
  change 2048 * k'.val ≤ (i 0).val ∧ (i 0).val < 2048 * k'.val + 2048 at b
  omega

theorem yK_disjoint (k k' : Fin 28) (h : k ≠ k') : Disjoint (yK k).view.set (yK k').view.set := by
  refine Finset.disjoint_left.mpr fun i hi hi' => h (Fin.ext ?_)
  have a := (mem_yK k i).mp hi 0
  have b := (mem_yK k' i).mp hi' 0
  change 2048 * k.val ≤ (i 0).val ∧ (i 0).val < 2048 * k.val + 2048 at a
  change 2048 * k'.val ≤ (i 0).val ∧ (i 0).val < 2048 * k'.val + 2048 at b
  omega

theorem fK_disjoint (k k' : Fin 28) (h : k ≠ k') : Disjoint (fK k).view.set (fK k').view.set := yK_disjoint k k' h

theorem bK_disjoint (k k' : Fin 8) (h : k ≠ k') : Disjoint (bK k).view.set (bK k').view.set := by
  refine Finset.disjoint_left.mpr fun i hi hi' => h (Fin.ext ?_)
  have a := (mem_bK k i).mp hi 0
  have b := (mem_bK k' i).mp hi' 0
  change k.val ≤ (i 0).val ∧ (i 0).val < k.val + 1 at a
  change k'.val ≤ (i 0).val ∧ (i 0).val < k'.val + 1 at b
  omega

/-- Every row below 57344 lies in one of the core's chunks. -/
theorem yK_covers (i : S65536x256.Idx) (h : ∀ k, i ∉ (yK k).view.set) : 57344 ≤ (i 0).val := by
  by_contra hlt
  refine h ⟨(i 0).val / 2048, by omega⟩ ((mem_yK _ i).mpr fun a => ?_)
  match a with
  | 0 => show 2048 * ((i 0).val / 2048) ≤ (i 0).val ∧ (i 0).val < 2048 * ((i 0).val / 2048) + 2048; omega
  | 1 => exact ⟨Nat.zero_le _, (i 1).isLt⟩

variable (d : Dev nD)

variable [FloatOps F]

/-- The core's whole run: from the two arguments, the result at an array that is `f` from row 57344 on, its scratch
and its sixteen semaphores at zero, it ends with the arguments as they were and the result at `out x f`. -/
theorem core_whole (O : CellTallies nD τ sig (HIx 1)) (W : Waits sig (HIx 1)) (x : Buf (Elt F) (xLoc d)) (f : Buf (Elt F) (fLoc d)) (y : Buf (Elt F) (yLoc d))
    (hy : ∀ i : S65536x256.Idx, 57344 ≤ (i 0).val → y i = f i) (s : Buf (Elt F) ((T d : Thread nD τ).loc cc1_scratch0)) :
    (iprop(Transfers.MayWaits (T d) (default : HIx 1) O
        ∗ (xLoc d ↦{fullShare} x) ∗ (fLoc d ↦{fullShare} f) ∗ (yLoc d ↦{fullShare} y) ∗ ((T d : Thread nD τ).loc cc1_scratch0 ↦{fullShare} s)
        ∗ (bigSep Finset.univ fun k : Fin 16 => semVal (tcCell d k) 0)
        ∗ owes (T d) O W) : sProp 𝕄)
      ⊢ wp frame (wpE (defs₀ (F := F)) 𝒱₀ (T d) none) Set.univ
          (cc1__dma_body (Memref.whole main_arg0) (Memref.isWhole_whole _) (Memref.whole main_arg1) (Memref.isWhole_whole _) (Memref.whole main_v1) (Memref.isWhole_whole _)
            (Memref.whole main_v1) (Memref.isWhole_whole _) (Memref.whole cc1_scratch0) (Memref.isWhole_whole _) cc1_scratch1 cc1_scratch2)
          fun _ => iprop((xLoc d ↦{fullShare} x) ∗ (fLoc d ↦{fullShare} f) ∗ (yLoc d ↦{fullShare} out d x f)
            ∗ (∃ s, (T d : Thread nD τ).loc cc1_scratch0 ↦{fullShare} s)
            ∗ (bigSep Finset.univ fun k : Fin 16 => semVal (tcCell d k) 0)
            ∗ ∃ W', ⌜∀ p ∈ W', p ∈ W ∨ p.2 = none⌝ ∗ owes (T d) O W') := by
  iintro ⟨#Hmw, Hx, Hf, Hy, Hs, Hc, HO⟩
  ihave Hx := (Common.pieces (ℓ := xLoc d) (fun k => (xK k).view.set) xK_disjoint fullShare x).1 $$ Hx
  ihave Hf := (Common.pieces (ℓ := fLoc d) (fun k => (fK k).view.set) fK_disjoint fullShare f).1 $$ Hf
  ihave Hy := (Common.pieces (ℓ := yLoc d) (fun k => (yK k).view.set) yK_disjoint fullShare y).1 $$ Hy
  ihave Hs := (Common.pieces (ℓ := (T d : Thread nD τ).loc cc1_scratch0) (fun k => (bK k).view.set) bK_disjoint fullShare s).1 $$ Hs
  icases Hx with ⟨Hx, Rx⟩
  icases Hf with ⟨Hf, Rf⟩
  icases Hy with ⟨Hy, Ry⟩
  icases Hs with ⟨Hs, Rs⟩
  iapply (wp_wand_r Idealize.ShloMosaic.frame (wpE (defs₀ (F := F)) 𝒱₀ (T d) none) Set.univ)
  isplitl [Hx Hf Hy Hs Hc HO]
  · iapply (core_run d O W x f y s)
    isplitr; · iexact Hmw
    isplitl [Hx]; · iexact Hx
    isplitl [Hf]; · iexact Hf
    isplitl [Hy]; · iexact Hy
    isplitl [Hs]; · iexact Hs
    isplitl [Hc]; · iexact Hc
    iexact HO
  iintro %_ ⟨Hx, Hf, Hy, Hs, Hc, HO⟩
  isplitl [Hx Rx]
  · iapply (Common.pieces (ℓ := xLoc d) (fun k => (xK k).view.set) xK_disjoint fullShare x).2
    isplitl [Hx]; · iexact Hx
    iexact Rx
  isplitl [Hf Rf]
  · iapply (Common.pieces (ℓ := fLoc d) (fun k => (fK k).view.set) fK_disjoint fullShare f).2
    isplitl [Hf]; · iexact Hf
    iexact Rf
  isplitl [Hy Ry]
  · iapply (Common.regather (ℓ := yLoc d) (fun k => (yK k).view.set) yK_disjoint fullShare y (out d x f) (out d x f) (fun _ _ _ => rfl)
      fun i hi => (Common.merged_of_le x f i (by have := yK_covers i hi; omega)).trans (hy i (yK_covers i hi)).symm)
    isplitl [Hy]; · iexact Hy
    iexact Ry
  isplitl [Hs Rs]
  · iapply (Common.regather_any (ℓ := (T d : Thread nD τ).loc cc1_scratch0) (fun k => (bK k).view.set) bK_disjoint fullShare s)
    isplitl [Hs]; · iexact Hs
    iexact Rs
  isplitl [Hc]; · iexact Hc
  iexact HO

/-! ## The core's kernel as a region of the program -/

/-- The pipeline library's rounds: the middle factor of the ghost state. -/
def EP : Emb (URounds (GSem nD τ sig) Unit) (MT nD τ sig (HIx 1) (Elt F) ℕ UU ℕ) :=
  ((Emb.inl : Emb (URounds (GSem nD τ sig) Unit) (URounds (GSem nD τ sig) Unit × Counters)).trans (Emb.inr : Emb _ UU)).trans
    (uEmb (nD := nD) (sig := sig) (Ix := HIx 1) (Val := Elt F) (Name := ℕ) (U := UU) (Lvl := ℕ)).toEmb

omit [FloatOps F] in
instance EP_landsIn : (EP (F := F) : Emb _ 𝕄).LandsIn (upEmb : UEmb _ 𝕄) := by unfold EP; infer_instance

variable (m : (ℓ : Loc nD τ sig) → Buf (Elt F) ℓ)

/-- An array that holds `f` from row 57344 on: what the tiles leave over `w`. -/
abbrev bank (w : Buf (Elt F) (wLoc d)) (f : Buf (Elt F) (fLoc d)) : Buf (Elt F) (wLoc d) :=
  fun i : S65536x256.Idx => if 57344 ≤ (i 0).val then f i else w i

/-- The result's contents when the region is entered, and when it is left. -/
abbrev yIn : Buf (Elt F) (yLoc d) := bank d (m (wLoc d)) (m (fLoc d))
abbrev yOut : Buf (Elt F) (yLoc d) := out d (m (xLoc d)) (m (fLoc d))

/-- The arguments as launched, the result at `y`. -/
abbrev arrs (y : Buf (Elt F) (yLoc d)) : sProp 𝕄 :=
  iprop((xLoc d ↦{fullShare} m (xLoc d)) ∗ (fLoc d ↦{fullShare} m (fLoc d)) ∗ (yLoc d ↦{fullShare} y))

/-- The kernel's own semaphores: eight for the copies in, eight for the copies out. -/
abbrev osem (k : Fin 16) : SemLoc sig := .dma ⟨6 + k.val, by have := k.isLt; show 6 + k.val < 22; omega⟩

abbrev sems : sProp 𝕄 := bigSep Finset.univ fun k : Fin 16 => semVal (tcCell d k) 0

abbrev lv : GSem nD τ sig → HIx 1 → ℕ := (K (F := F)).lev

/-- The prefetched tables' admissible contents: no table. -/
abbrev adm : (p : Fin 1) → (pcfgs (F := F) p).Adm := fun p => (cfgs p).toPCfg_adm

/-- What the region holds before and after its only step. -/
def held (y : Buf (Elt F) (yLoc d)) : sProp 𝕄 :=
  iprop(levAts (K (F := F)).L (lv (F := F)) ∗ arrs d m y ∗ sems d
    ∗ Pipeline.scopedRest (Ix := HIx 1) (Name := ℕ) (U := UU) (Lvl := ℕ) (Val := Elt F) cfg1.spec d)

/-- The region's proof data: no window; the kernel's invariant is `held`, the result's contents changing at the
step; nothing owed, every wait recorded at a level of at most eight. -/
def dats (_ : Fin 1) (c : Dev nD) : Pipeline.Dat τ (Elt F) (HIx 1) ℕ UU ℕ cfg1 c where
  A w := w.elim0
  after w := w.elim0
  Φ t := held c m (if t.val = 0 then yIn c m else yOut c m)
  q _ := fullShare
  owed _ := 0
  recorded _ := {p | (K (F := F)).lev (T c, p.1) p.2 ≤ 8}

omit [FloatOps F] in
/-- A product over the region's windows, of which there are none. -/
theorem bigSep_W0 (Φ : Fin cfg1.W → sProp 𝕄) : bigSep Finset.univ Φ = (BI.emp : sProp 𝕄) := BI.bigSep_univ_eq_bigSepL [] (by decide) (by decide) Φ

/-- The body's obligation: the kernel's run at the region's state. -/
theorem body_obligation (c : Dev nD) : Pipeline.BodyObligation (dats m 0 c) (defs₀ (F := F)) 𝒱₀ (default : HIx 1) Set.univ := fun t => by
  obtain rfl := fin_N1 t
  rw [bigSep_W0, bigSep_W0]
  rw [show (dats m 0 c).Φ t1_0.castSucc = held c m (yIn c m) from rfl, show (dats m 0 c).Φ t1_0.succ = held c m (yOut c m) from rfl]
  unfold held Pipeline.Dat.owesAt Pipeline.owesWithin; rw [scopedRest1_eq]
  rw [show (dats m 0 c).owed t1_0.castSucc = 0 from rfl, show (dats m 0 c).owed t1_0.succ = 0 from rfl]
  iintro ⟨⟨#Hlv, ⟨Hx, Hf, Hy⟩, Hc, ⟨%s, Hs⟩⟩, ⟨%W, %hW, HO⟩, -⟩
  ihave Hmw := (show (levAts (K (F := F)).L (lv (F := F)) : sProp 𝕄) ⊢ Transfers.MayWaits (T c) (default : HIx 1) 0 from
    (K (F := F)).mayWaits_none (thr := T c) (fun _ => rfl)) $$ Hlv
  iapply (wp_wand_r Idealize.ShloMosaic.frame (wpE (defs₀ (F := F)) 𝒱₀ (T c) none) Set.univ)
  isplitl
  · iapply (core_whole c 0 W (m (xLoc c)) (m (fLoc c)) (yIn c m) (fun i hi => if_pos hi) s)
    isplitl [Hmw]; · iexact Hmw
    isplitl [Hx]; · iexact Hx
    isplitl [Hf]; · iexact Hf
    isplitl [Hy]; · iexact Hy
    isplitl [Hs]; · iexact Hs
    isplitl [Hc]; · iexact Hc
    iexact HO
  iintro %_ ⟨Hx, Hf, Hy, Hs, Hc, ⟨%W', %hW', HO⟩⟩
  isplitl [Hx Hf Hy Hs Hc]
  · isplitr; · iexact Hlv
    isplitl [Hx Hf Hy]
    · isplitl [Hx]; · iexact Hx
      isplitl [Hf]; · iexact Hf
      iexact Hy
    isplitl [Hc]; · iexact Hc
    iexact Hs
  isplitl [HO]
  · iexists W'
    isplitr; swap; · iexact HO
    ipureintro
    intro p hp
    rcases hW' p hp with h | h
    · exact hW h
    · left; show (K (F := F)).lev (T c, p.1) p.2 ≤ 8; rw [h]; exact Nat.zero_le _
  iempintro

/-- The kernel's semaphores are its own. -/
theorem ownSemFacts : Pipeline.OwnSemFacts cfg1.spec osem := by decide

/-- What the core brings to the region and takes from it: the arrays and what it owes, nothing, at waits of level at most eight. -/
abbrev around (c : Dev nD) (y : Buf (Elt F) (yLoc c)) : sProp 𝕄 :=
  iprop(arrs c m y ∗ ∃ W, ⌜(K (F := F)).WBelow (T c) W 8⌝ ∗ owes (T c) (0 : CellTallies nD τ sig (HIx 1)) W)

set_option backward.isDefEq.respectTransparency.types false in
/-- The region: entered with the arguments as launched and the result holding the tiles' rows, left with the result whole. -/
def reg : Pipeline.RegionSeg (pcfgs (F := F)) adm (dats m) (default : HIx 1) defs₀ 𝒱₀ (K (F := F)).L (lv (F := F)) 0 where
  win := launch1.win.to₀
  block_pos := launch1.block_pos
  stage_whole := launch1.stage_whole
  K := Fin 16
  osem := osem
  ho := ownSemFacts
  hbody c := (body_obligation m c).loose
  hwaits := Pipeline.hwaits_of_owed_zero _ _ _ _ (K (F := F)).L (lv (F := F)) 0 fun _ _ => rfl
  pre c := around m c (yIn c m)
  post c := around m c (yOut c m)
  X c := iprop(levAts (K (F := F)).L (lv (F := F)) ∗ arrs c m (yIn c m) ∗ sems c)
  Y c := arrs c m (yOut c m)
  Z c := iprop(emp)
  hentry c := by
    iintro ⟨⟨Ha, ⟨%W, %hW, HO⟩⟩, Hos, #Hlv⟩
    imodintro
    isplitr; · unfold Pipeline.Dat.arrays; rw [show (Finset.univ : Finset (Fin cfg1.W)) = ∅ from rfl, BI.bigSep_empty]; iempintro
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitl
    · isplitr; · iexact Hlv
      isplitl [Ha]; · iexact Ha
      iapply (show (Pipeline.ownSems0 (osem) c : sProp 𝕄) ⊢ sems c from .rfl); iexact Hos
    iempintro
  hin c := by
    rw [show (dats m 0 c).Φ 0 = held c m (yIn c m) from rfl]; unfold held
    iintro ⟨⟨Hlv, Ha, Hos⟩, -, Hr⟩
    isplitl [Hlv]; · iexact Hlv
    isplitl [Ha]; · iexact Ha
    isplitl [Hos]; · iexact Hos
    iexact Hr
  hout c := by
    rw [show (dats m 0 c).Φ (Fin.last cfg1.N) = held c m (yOut c m) from rfl]; unfold held
    iintro ⟨-, Ha, Hos, Hr⟩
    isplitl [Ha]; · iexact Ha
    isplitl [Hos]; · iapply (show (sems c : sProp 𝕄) ⊢ Pipeline.ownSems0 osem c from .rfl); iexact Hos
    iexact Hr
  hexit c := by
    iintro ⟨-, HO, Ha, -⟩
    imodintro
    isplitl [Ha]; · iexact Ha
    unfold Pipeline.Dat.owesAt Pipeline.owesWithin
    icases HO with ⟨%W, %hW, HO⟩
    iexists W
    isplitr; swap; · iexact HO
    ipureintro
    intro p hp
    rcases hW hp with h | ⟨w, _⟩
    · exact h
    · exact w.elim0

end Cert.Proof.OnKernelIdeal

end
-- ==== Proof.KernelIdealLaunch.lean ====
module

public import proofs.«01_k».proof.Proof.KernelIdealTile
public import proofs.«01_k».proof.Proof.KernelIdealRegion

@[expose] public section

noncomputable section

namespace Cert.Proof.OnKernelIdeal

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the call carries -/

/-- The call runs on 16 subcores of each of 2 cores. -/
theorem nSub_zero : (K (F := F)).nSub 0 = 16 := rfl
theorem nCore_zero : (K (F := F)).nCore 0 = 2 := rfl

/-- A product over the call's subcores is one over 16 indices. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A product over the call's cores is one over 2 indices. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

/-- Tile `(c, s)`'s chunks, the result's at `w`. -/
abbrev tile (d : Dev nD) (w : Buf (Elt F) (wLoc d)) (c : Fin 2) (s : Fin 16) : sProp 𝕄 := task d (m (fLoc d)) w (at_ c s)

/-- All of core `c`'s tiles' chunks. -/
abbrev tiles (d : Dev nD) (w : Buf (Elt F) (wLoc d)) (c : Fin 2) : sProp 𝕄 := bigSep Finset.univ fun s : Fin 16 => tile m d w c s

/-- The call hands each core its tiles' chunks, each tile its own; they come back with the result's at the argument's contents. -/
def P : (K (F := F)).Pay (nD := nD) (Val := Elt F) (Name := ℕ) (U := UU) where
  st := fun q d c => match q with | 0 => tiles m d (m (wLoc d)) (Fin.cast nCore_zero c)
  dn := fun q d c => match q with | 0 => tiles m d (m (fLoc d)) (Fin.cast nCore_zero c)
  go := fun q d c i => match q with | 0 => tile m d (m (wLoc d)) (Fin.cast nCore_zero c) (Fin.cast nSub_zero i)
  td := fun q d c i => match q with | 0 => tile m d (m (fLoc d)) (Fin.cast nCore_zero c) (Fin.cast nSub_zero i)
  x := fun _ _ => iprop(emp)

instance P_storable : (P (F := F) m).IsStorable where
  st q d c := match q with | 0 => (inferInstance : BI.Storable (upEmb : UEmb _ 𝕄) (tiles m d (m (wLoc d)) (Fin.cast nCore_zero c)))
  dn q d c := match q with | 0 => (inferInstance : BI.Storable (upEmb : UEmb _ 𝕄) (tiles m d (m (fLoc d)) (Fin.cast nCore_zero c)))
  go q d c i := match q with
    | 0 => (inferInstance : BI.Storable (upEmb : UEmb _ 𝕄) (tile m d (m (wLoc d)) (Fin.cast nCore_zero c) (Fin.cast nSub_zero i)))
  td q d c i := match q with
    | 0 => (inferInstance : BI.Storable (upEmb : UEmb _ 𝕄) (tile m d (m (fLoc d)) (Fin.cast nCore_zero c) (Fin.cast nSub_zero i)))

/-! ## The tile's obligation -/

/-- What a subcore runs in the call. -/
theorem defs₀_vector (c : Fin τ.nSC) (s : Fin τ.nSub) :
    defs₀ (F := F) (.scVector c s) 0 ()
      = SparseCore.onTile hcore0 hsub0 (fun c s => cc0_bank (at_ c s) (Memref.whole main_arg1_scv) (Memref.isWhole_whole _) (Memref.whole main_v0_scv) (Memref.isWhole_whole _)
            (Memref.whole cc0_scratch0) (Memref.isWhole_whole _) cc0_scratch1 cc0_scratch2) ⟨⟩ c s := rfl

omit [FloatOps F] in
/-- A tile's waits are recorded as the call asks for them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call runs its task. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (at_ ⟨_, hci.1⟩ ⟨_, hci.2⟩) hF (m (fLoc d)) (m (wLoc d)) O W hO).trans (wp_mono frame _ _ fun _ => obl_post)

/-- What a core is handed splits into its tiles' tasks, and what they bring back makes up what the core returns. -/
theorem vecSplit : (K (F := F)).VecSplit' (P m) 0 := by
  intro d c
  show tiles m d (m (wLoc d)) (Fin.cast nCore_zero c) ⊢ |={Set.univ}=> iprop(
      (bigSep Finset.univ fun i : Fin ((K (F := F)).nSub 0) => tile m d (m (wLoc d)) (Fin.cast nCore_zero c) (Fin.cast nSub_zero i))
      ∗ ((bigSep Finset.univ fun i : Fin ((K (F := F)).nSub 0) => tile m d (m (fLoc d)) (Fin.cast nCore_zero c) (Fin.cast nSub_zero i))
          -∗ tiles m d (m (fLoc d)) (Fin.cast nCore_zero c)))
  rw [bigSep_tasks (F := F) (fun i => tile m d (m (wLoc d)) (Fin.cast nCore_zero c) i),
    bigSep_tasks (F := F) (fun i => tile m d (m (fLoc d)) (Fin.cast nCore_zero c) i)]
  iintro H; imodintro
  isplitl [H]; · iexact H
  iintro H; iexact H

/-! ## The arrays split among the tiles, and join -/

/-- The cores' tiles' chunks are the argument's chunks and the result's chunks. -/
theorem all_tiles (d : Dev nD) (w : Buf (Elt F) (wLoc d)) :
    (bigSep Finset.univ fun c : Fin 2 => tiles m d w c)
      = iprop((bigSep Finset.univ fun t : Chunk => fLoc d ↦[chunk t]{fullShare} m (fLoc d)) ∗ bigSep Finset.univ fun t : Chunk => wLoc d ↦[chunk t]{fullShare} w) := by
  simp only [bigSep_univ_prod, bigSep_sep']

/-- Before the call: both arrays, whole, are the tiles' chunks and what no tile takes. -/
theorem deal (d : Dev nD) :
    iprop((fLoc d ↦{fullShare} m (fLoc d)) ∗ (wLoc d ↦{fullShare} m (wLoc d)))
      ⊢ (iprop((bigSep Finset.univ fun c : Fin 2 => tiles m d (m (wLoc d)) c)
          ∗ (fLoc d ↦[Finset.univ \ Finset.univ.biUnion chunk]{fullShare} m (fLoc d))
          ∗ (wLoc d ↦[Finset.univ \ Finset.univ.biUnion chunk]{fullShare} m (wLoc d))) : sProp 𝕄) := by
  rw [all_tiles]
  iintro ⟨Hf, Hw⟩
  ihave Hf := (Common.pieces (ℓ := fLoc d) chunk chunk_disjoint fullShare (m (fLoc d))).1 $$ Hf
  ihave Hw := (Common.pieces (ℓ := wLoc d) chunk chunk_disjoint fullShare (m (wLoc d))).1 $$ Hw
  icases Hf with ⟨Hf, Rf⟩
  icases Hw with ⟨Hw, Rw⟩
  isplitl [Hf Hw]
  · isplitl [Hf]; · iexact Hf
    iexact Hw
  isplitl [Rf]; · iexact Rf
  iexact Rw

/-- After the call: the argument is whole as it was, the result holds it from row 57344 on. -/
theorem undeal (d : Dev nD) :
    (iprop((bigSep Finset.univ fun c : Fin 2 => tiles m d (m (fLoc d)) c)
          ∗ (fLoc d ↦[Finset.univ \ Finset.univ.biUnion chunk]{fullShare} m (fLoc d))
          ∗ (wLoc d ↦[Finset.univ \ Finset.univ.biUnion chunk]{fullShare} m (wLoc d))) : sProp 𝕄)
      ⊢ iprop((fLoc d ↦{fullShare} m (fLoc d)) ∗ (wLoc d ↦{fullShare} bank d (m (wLoc d)) (m (fLoc d)))) := by
  rw [all_tiles]
  iintro ⟨⟨Hf, Hw⟩, Rf, Rw⟩
  isplitl [Hf Rf]
  · iapply (Common.pieces (ℓ := fLoc d) chunk chunk_disjoint fullShare (m (fLoc d))).2
    isplitl [Hf]; · iexact Hf
    iexact Rf
  · iapply (Common.regather (ℓ := wLoc d) chunk chunk_disjoint fullShare (m (wLoc d)) (m (fLoc d)) (bank d (m (wLoc d)) (m (fLoc d)))
      (fun t i hi => if_pos (chunk_ge t i hi)) (fun i h => if_neg (Nat.not_le.mpr (chunk_covers i h))))
    isplitl [Hw]; · iexact Hw
    iexact Rw

/-! ## The launch element of the ghost state -/

/-- The ghost state at launch: the call's handshakes, nothing else yet. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- It provides the handshakes. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : URounds (GSem nD τ sig) Unit × Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
/-- The core's arrays at launch: the two arguments, the tiles' array, the result. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (fLoc d ↦{fullShare} W main_arg1) ∗ (wLoc d ↦{fullShare} W main_v0) ∗ yLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The host's copy of the tiles' array into the result. -/
abbrev cp : HloOp τ sig (Elt F) := StableHlo.unary main_v0 main_v1 id

omit [FloatOps F] in
/-- The copy touches the tiles' array and the result. -/
theorem cp_bufs (d : Dev nD) (V : Valuation τ sig (Elt F)) :
    (bigSep (cp (F := F)).bufs fun b => (d, b) ↦{fullShare} V b : sProp 𝕄)
      = iprop((wLoc d ↦{fullShare} V (Proc.devRef .tc main_v0)) ∗ (yLoc d ↦{fullShare} V (Proc.devRef .tc main_v1))) := by
  rw [StableHlo.unary_bufs, SparseCore.bigSep_insert' (by decide), bigSep_singleton]

/-- The copy leaves the result at the first array's contents. -/
theorem copy_wp (d : Dev nD) (V : Valuation τ sig (Elt F)) :
    (iprop(boundary (T d : Thread nD τ) ∗ (wLoc d ↦{fullShare} V (Proc.devRef .tc main_v0)) ∗ (yLoc d ↦{fullShare} V (Proc.devRef .tc main_v1))) : sProp 𝕄)
      ⊢ wp frame (wpE ((K (F := F)).defs (D (F := F))) 𝒱 (T d) none) Set.univ (hlo rfl (cp (F := F)) fun _ => Prog.ret PUnit.unit)
          fun _ => iprop(boundary (T d : Thread nD τ) ∗ (wLoc d ↦{fullShare} V (Proc.devRef .tc main_v0)) ∗ (yLoc d ↦{fullShare} (V (Proc.devRef .tc main_v0) : Buf (Elt F) (yLoc d)))) := by
  iintro ⟨Hb, Hw, Hy⟩
  iapply (wp_hlo 𝒱 (T d) none Set.univ (hp := rfl) (op := cp (F := F)) (q := fun _ => fullShare) (F := V) fun _ _ => rfl) $$ [Hb Hw Hy]
  · isplitl [Hb]; · iexact Hb
    iapply (Entails.of_eq (cp_bufs d V).symm)
    isplitl [Hw] <;> iassumption
  iintro ⟨Hb, H⟩
  ihave H := (Entails.of_eq (cp_bufs d ((cp (F := F)).result V))) $$ H
  rw [StableHlo.unary_result, StableHlo.unary_result_ne _ _ _ _ _ _ (show main_v0 ≠ main_v1 by decide)]
  icases H with ⟨Hw, Hy⟩
  rw [wp_ret]; imodintro
  isplitl [Hb]; · iexact Hb
  isplitl [Hw]; · iexact Hw
  iexact Hy

set_option backward.isDefEq.respectTransparency.types false in
/-- The region's call, entered between regions: the arrays go from what the tiles left to the end. -/
theorem region_wp [∀ e, Nonempty (Elt F e)] (d : Dev nD) :
    iprop(boundary (T d : Thread nD τ) ∗ around m d (yIn d m) ∗ levAts (K (F := F)).L (lv (F := F)))
      ⊢ wp frame (wpE (D (F := F)) 𝒱 (T d) none) Set.univ (.op (.customCall (Pipeline.entry 0) ()) fun _ => .ret PUnit.unit)
          fun _ => iprop(boundary (T d : Thread nD τ) ∗ around m d (yOut d m)) := by
  refine .trans ?_ (Pipeline.RegionSeg.wp (pcfgs (F := F)) adm (dats m) (default : HIx 1) Gen.cellOf_inj EP defs₀ 𝒱₀ (K (F := F)).L (lv (F := F)) (reg m) d none
    (fun u hu => nomatch hu) (fun _ => .ret PUnit.unit) (fun _ => iprop(boundary (T d : Thread nD τ) ∗ around m d (yOut d m))))
  iintro ⟨Hb, Hp, Hlv⟩
  isplitr
  · iintro H; rw [wp_ret]; imodintro; iexact H
  isplitl [Hb]; · iexact Hb
  isplitl [Hp]; · iapply (show around m d (yIn d m) ⊢ (reg m).pre d from .rfl); iexact Hp
  isplitl [Hlv]; · iexact Hlv
  unfold Pipeline.cellsGhost Pipeline.toksInit Pipeline.PerCore.cellsGhost Pipeline.PerCore.toksInit
  rw [show (Finset.univ : Finset (Fin (Pipeline.pin (pcfgs (F := F)) adm 0).W)) = ∅ from rfl, BI.bigSep_empty, BI.bigSep_empty]
  isplitr <;> iempintro

/-- What @main ends with. -/
abbrev FIN (d : Dev nD) : sProp 𝕄 := arrs d m (yOut d m)

/-- @main on device `d`'s TensorCore: the call, the copy, the region; the arguments end as launched, the result at `yOut`. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hf, Hw, Hy⟩, Hts, -⟩, -⟩
  ihave Hd := (deal m d) $$ [Hf Hw]
  · isplitl [Hf] <;> iassumption
  icases Hd with ⟨Ht, Rf, Rw⟩
  iapply ((K (F := F)).wp_run (D (F := F)) 𝒱 (EH := EH) (P := P m) κ d 0) $$ [Hst Ht Rf Rw Hx Hy Hb Hts]
  isplitr; · iexact Hctx
  isplitl [Hst]; · iexact Hst
  isplitl [Ht]
  · iapply (Entails.of_eq (bigSep_cores (F := F) (fun c => tiles m d (m (wLoc d)) c)).symm); iexact Ht
  iintro ⟨Hst, Ht⟩
  ihave Ht := (show (bigSep Finset.univ fun c => (P m).dn 0 d c) ⊢ (bigSep Finset.univ fun c => tiles m d (m (fLoc d)) c : sProp 𝕄) from
    Entails.of_eq (bigSep_cores (F := F) (fun c => tiles m d (m (fLoc d)) c))) $$ Ht
  ihave Hfw := (undeal m d) $$ [Ht Rf Rw]
  · isplitl [Ht]; · iexact Ht
    isplitl [Rf] <;> iassumption
  icases Hfw with ⟨Hf, Hw⟩
  let V : Valuation τ sig (Elt F) := Function.update (fun b => m (d, b)) (Proc.devRef .tc main_v0) (bank d (m (wLoc d)) (m (fLoc d)))
  have e0 : V (Proc.devRef .tc main_v0) = bank d (m (wLoc d)) (m (fLoc d)) := Function.update_self _ _ _
  have e1 : V (Proc.devRef .tc main_v1) = m (yLoc d) := Function.update_of_ne (by decide) _ _
  iapply (wp_wand_r Idealize.ShloMosaic.frame (wpE ((K (F := F)).defs (D (F := F))) 𝒱 (T d) none) Set.univ)
  isplitl [Hb Hw Hy]
  · iapply (copy_wp d V)
    rw [e0, e1]
    isplitl [Hb]; · iexact Hb
    isplitl [Hw]; · iexact Hw
    iexact Hy
  rw [e0]
  iintro %_ ⟨Hb, -, Hy⟩
  ihave #Hlv := ((K (F := F)).ctx_levAts κ) $$ Hctx
  unfold SparseCore.Cfg.tcSt
  icases Hst with ⟨HO, Hst⟩
  rw [show (K (F := F)).Otc d ((0 : Fin 1).val + 1) = 0 from (K (F := F)).Otc_end d (Nat.le_refl 1)]
  iapply (wp_wand_r Idealize.ShloMosaic.frame (wpE ((K (F := F)).defs (D (F := F))) 𝒱 (T d) none) Set.univ)
  isplitl [Hb Hx Hf Hy HO]
  · iapply ((K (F := F)).wp_liftProg (D (F := F)) 𝒱 (T d) Set.univ none (.op (.customCall (Pipeline.entry 0) ()) fun _ => .ret PUnit.unit) _)
    iapply (region_wp m d)
    isplitl [Hb]; · iexact Hb
    isplitl [Hx Hf Hy HO]
    · isplitl [Hx Hf Hy]
      · isplitl [Hx]; · iexact Hx
        isplitl [Hf]; · iexact Hf
        iexact Hy
      iexact HO
    iexact Hlv
  iintro %_ ⟨Hb, Ha, HO⟩
  imodintro
  isplitl [Hst HO]
  · rw [show (K (F := F)).Otc d 1 = 0 from (K (F := F)).Otc_end d (Nat.le_refl 1)]
    isplitl [HO]; · iexact HO
    iexact Hst
  isplitl [Ha]; · iexact Ha
  isplitl [Hb] <;> iassumption

/-- What the final memory of device `d` holds. -/
def fq (d : Dev nD) (s' : Phys nD τ sig (Elt F)) : Prop :=
  s'.mem.mem (yLoc d) = yOut d m ∧ s'.mem.mem (xLoc d) = m (xLoc d) ∧ s'.mem.mem (fLoc d) = m (fLoc d)

set_option maxRecDepth 16384 in
/-- What @main ends with determines the final memory. -/
theorem hfin (d : Dev nD) (s' : Phys nD τ sig (Elt F)) : iprop(FIN m d ∗ SI s') ⊢ (⌜fq m d s'⌝ : sProp 𝕄) := by
  iintro ⟨⟨Hx, Hf, Hy⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := fLoc d) (I := Finset.univ) (q := fullShare) (f := m (fLoc d)))) $$ [HSI Hf]
  · isplitl [HSI] <;> iassumption
  icases H with ⟨%h2, HSI, -⟩
  ihave H := (SI_pointsTo_agree (st := s') (ℓ := yLoc d) (I := Finset.univ) (q := fullShare) (f := yOut d m)) $$ [HSI Hy]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every device ends with the result at `yOut` and the arguments as launched, every semaphore at zero. -/
def QC : PUnit × MemSt nD τ sig (Elt F) → Prop := fun r =>
  (∀ d : Dev nD, r.2.mem (yLoc d) = yOut d m ∧ r.2.mem (xLoc d) = m (xLoc d) ∧ r.2.mem (fLoc d) = m (fLoc d)) ∧ r.2.sem = fun _ => 0

/-- The program's run, from any memory: the result holds the first argument over its first 4096 rows and the second
under them; the arguments are as launched; every semaphore is back at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.OnKernelIdeal

end
-- ==== Proof.Value.lean ====
module

public import proofs.«01_k».proof.Proof.Common
public import Idealize.ShloMosaic.Lib.Pipeline.Value

@[expose] public section

namespace Cert.Proof.Value

open Idealize.ShloMosaic

/-- Writing `x` into `f` at row 0, column 0, is `merged x f`: the window fits there, so its start is not moved, and it is
the first 4096 rows, whole. -/
theorem update_eq {α : Type} (x : (⟨2, ![4096, 256]⟩ : Shape).Idx → α) (f : (⟨2, ![65536, 256]⟩ : Shape).Idx → α) (start : Fin 2 → Int) (h0 : ∀ a, start a = 0)
    (h : (⟨2, ![65536, 256]⟩ : Shape).Slices (fun _ => 0) ⟨2, ![4096, 256]⟩) :
    Host.dynamicUpdateSlice f x start h = Common.merged x f := by
  rw [Host.dynamicUpdateSlice_eq_updateSlice f x start h (fun _ => 0) (fun a => by rw [h0]; simp) h]
  funext i
  unfold updateSlice
  have h1 : (i 1).val < 256 := (i 1).isLt
  by_cases hi : (i 0).val < 4096
  · rw [dif_pos (fun a => match a with
      | 0 => ⟨Nat.zero_le _, by show (i 0).val < 0 + 4096; omega⟩
      | 1 => ⟨Nat.zero_le _, by show (i 1).val < 0 + 256; omega⟩)]
    exact (Common.merged_of_lt x f i _ rfl rfl).symm
  · rw [dif_neg fun hin => hi (by have := (hin 0).2; change (i 0).val < 0 + 4096 at this; omega)]
    exact (Common.merged_of_le x f i (by omega)).symm

end Cert.Proof.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs, its arguments end unchanged, every semaphore ends at zero. -/
theorem frame_kernel : Cert.quiescent_Kernel := fun m g _ =>
  (θ_run Cert.Kernel.defs _ _).mono (fun _ h => ⟨fun c => (h.1 c).2, h.2⟩) (OnKernel.run_main (F := Bits) m g)

/-- So does the kernel over the extended reals. -/
theorem frame_kernelIdeal : Cert.quiescent_KernelIdeal := fun m g _ =>
  (θ_run Cert.KernelIdeal.defs _ _).mono (fun _ h => ⟨fun c => (h.1 c).2, h.2⟩) (OnKernelIdeal.run_main (F := Ideal) m g)

/-- So does the reference, which declares no semaphore. -/
theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

/-- Kernel and reference, from the same arguments, end with the same result: the first argument over the first 4096 rows
of the second. -/
theorem value : Cert.algebraic_KernelIdeal_ReferenceIdeal := fun m g m' g' _ hm =>
  ⟨fun d => OnKernelIdeal.yOut d m,
    (θ_run Cert.KernelIdeal.defs _ _).mono (fun _ h => h.1) (OnKernelIdeal.run_main (F := Ideal) m g),
    (θ_run Cert.ReferenceIdeal.defs _ _).mono (fun _ h c => ⟨by
        refine (h c).1.trans ?_
        rw [(hm c).1, (hm c).2]
        exact Value.update_eq _ _ _ (fun a => by fin_cases a <;> rfl) _, (h c).2⟩)
      (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_kernelIdeal, frame_reference, trivial, value⟩

end Cert.Proof

end
